-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x1024x12 : Shape := ⟨4, ![16, 64, 1024, 12]⟩
abbrev S2x1024x1024 : Shape := ⟨3, ![2, 1024, 1024]⟩
abbrev S64x320 : Shape := ⟨2, ![64, 320]⟩
abbrev S64 : Shape := ⟨1, ![64]⟩
abbrev S1024x16x12x64 : Shape := ⟨4, ![1024, 16, 12, 64]⟩
abbrev S1024x12288 : Shape := ⟨2, ![1024, 12288]⟩
abbrev S1x1024x1024 : Shape := ⟨3, ![1, 1024, 1024]⟩
abbrev S1024x1024 : Shape := ⟨2, ![1024, 1024]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x256x256 : Shape := ⟨3, ![1, 256, 256]⟩
abbrev S5x256x256 : Shape := ⟨3, ![5, 256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1024x256 : Shape := ⟨2, ![1024, 256]⟩

abbrev nBuf : Space → Nat
  | .hbm => 75
  | .vmem => 8
  | .smem => 0
  | _ => 0

abbrev bufTy : (tb : Table) → Fin (tcTables nBuf tb) → BufTy
  | .hbm, ⟨0, _⟩ => ⟨S16x64x1024x12, .f32⟩
  | .hbm, ⟨1, _⟩ => ⟨S2x1024x1024, .f32⟩
  | .hbm, ⟨2, _⟩ => ⟨S64x320, .f32⟩
  | .hbm, ⟨3, _⟩ => ⟨S64, .f32⟩
  | .hbm, ⟨4, _⟩ => ⟨S1024x16x12x64, .f32⟩
  | .hbm, ⟨5, _⟩ => ⟨S1024x12288, .f32⟩
  | .hbm, ⟨6, _⟩ => ⟨S1024x12288, .bf16⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S1x1024x1024, .f32⟩
  | .hbm, ⟨11, _⟩ => ⟨S1024x1024, .f32⟩
  | .hbm, ⟨12, _⟩ => ⟨S1024x1024, .bf16⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S64x64, .f32⟩
  | .hbm, ⟨21, _⟩ => ⟨S64x64, .f32⟩
  | .hbm, ⟨22, _⟩ => ⟨S4x1x4x1, .f32⟩
  | .hbm, ⟨23, _⟩ => ⟨S1x64x1x64, .f32⟩
  | .hbm, ⟨24, _⟩ => ⟨S4x64x4x64, .f32⟩
  | .hbm, ⟨25, _⟩ => ⟨S4x64x4x64, .f32⟩
  | .hbm, ⟨26, _⟩ => ⟨S4x64x4x64, .f32⟩
  | .hbm, ⟨27, _⟩ => ⟨S256x256, .f32⟩
  | .hbm, ⟨28, _⟩ => ⟨S64x64, .f32⟩
  | .hbm, ⟨29, _⟩ => ⟨S64x64, .f32⟩
  | .hbm, ⟨30, _⟩ => ⟨S4x1x4x1, .f32⟩
  | .hbm, ⟨31, _⟩ => ⟨S1x64x1x64, .f32⟩
  | .hbm, ⟨32, _⟩ => ⟨S4x64x4x64, .f32⟩
  | .hbm, ⟨33, _⟩ => ⟨S4x64x4x64, .f32⟩
  | .hbm, ⟨34, _⟩ => ⟨S4x64x4x64, .f32⟩
  | .hbm, ⟨35, _⟩ => ⟨S256x256, .f32⟩
  | .hbm, ⟨36, _⟩ => ⟨S64x64, .f32⟩
  | .hbm, ⟨37, _⟩ => ⟨S64x64, .f32⟩
  | .hbm, ⟨38, _⟩ => ⟨S4x1x4x1, .f32⟩
  | .hbm, ⟨39, _⟩ => ⟨S1x64x1x64, .f32⟩
  | .hbm, ⟨40, _⟩ => ⟨S4x64x4x64, .f32⟩
  | .hbm, ⟨41, _⟩ => ⟨S4x64x4x64, .f32⟩
  | .hbm, ⟨42, _⟩ => ⟨S4x64x4x64, .f32⟩
  | .hbm, ⟨43, _⟩ => ⟨S256x256, .f32⟩
  | .hbm, ⟨44, _⟩ => ⟨S64x64, .f32⟩
  | .hbm, ⟨45, _⟩ => ⟨S64x64, .f32⟩
  | .hbm, ⟨46, _⟩ => ⟨S4x1x4x1, .f32⟩
  | .hbm, ⟨47, _⟩ => ⟨S1x64x1x64, .f32⟩
  | .hbm, ⟨48, _⟩ => ⟨S4x64x4x64, .f32⟩
  | .hbm, ⟨49, _⟩ => ⟨S4x64x4x64, .f32⟩
  | .hbm, ⟨50, _⟩ => ⟨S4x64x4x64, .f32⟩
  | .hbm, ⟨51, _⟩ => ⟨S256x256, .f32⟩
  | .hbm, ⟨52, _⟩ => ⟨S64x64, .f32⟩
  | .hbm, ⟨53, _⟩ => ⟨S64x64, .f32⟩
  | .hbm, ⟨54, _⟩ => ⟨S4x1x4x1, .f32⟩
  | .hbm, ⟨55, _⟩ => ⟨S1x64x1x64, .f32⟩
  | .hbm, ⟨56, _⟩ => ⟨S4x64x4x64, .f32⟩
  | .hbm, ⟨57, _⟩ => ⟨S4x64x4x64, .f32⟩
  | .hbm, ⟨58, _⟩ => ⟨S4x64x4x64, .f32⟩
  | .hbm, ⟨59, _⟩ => ⟨S256x256, .f32⟩
  | .hbm, ⟨60, _⟩ => ⟨S1x256x256, .f32⟩
  | .hbm, ⟨61, _⟩ => ⟨S1x256x256, .f32⟩
  | .hbm, ⟨62, _⟩ => ⟨S1x256x256, .f32⟩
  | .hbm, ⟨63, _⟩ => ⟨S1x256x256, .f32⟩
  | .hbm, ⟨64, _⟩ => ⟨S1x256x256, .f32⟩
  | .hbm, ⟨65, _⟩ => ⟨S5x256x256, .f32⟩
  | .hbm, ⟨66, _⟩ => ⟨S5x256x256, .bf16⟩
  | .hbm, ⟨67, _⟩ => ⟨S1x64, .f32⟩
  | .hbm, ⟨68, _⟩ => ⟨S4x64, .f32⟩
  | .hbm, ⟨69, _⟩ => ⟨S256, .f32⟩
  | .hbm, ⟨70, _⟩ => ⟨S1x256, .f32⟩
  | .hbm, ⟨71, _⟩ => ⟨S1024x12288, .bf16⟩
  | .hbm, ⟨72, _⟩ => ⟨S1024x16x12x64, .bf16⟩
  | .hbm, ⟨73, _⟩ => ⟨S16x64x1024x12, .bf16⟩
  | .hbm, ⟨74, _⟩ => ⟨S16x64x1024x12, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S5x256x256, .bf16⟩
  | .local _ .vmem, ⟨5, _⟩ => ⟨S1x256, .f32⟩
  | .local _ .vmem, ⟨6, _⟩ => ⟨S1024x1024, .bf16⟩
  | .local _ .vmem, ⟨7, _⟩ => ⟨S1024x1024, .bf16⟩
  | _, _ => ⟨S16x64x1024x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x64x1024x12 : Shape := ⟨4, ![16, 64, 1024, 12]⟩
abbrev S2x1024x1024 : Shape := ⟨3, ![2, 1024, 1024]⟩
abbrev S64x320 : Shape := ⟨2, ![64, 320]⟩
abbrev S64 : Shape := ⟨1, ![64]⟩
abbrev S1x1024x1024 : Shape := ⟨3, ![1, 1024, 1024]⟩
abbrev S1024x1024 : Shape := ⟨2, ![1024, 1024]⟩
abbrev S1024x16x64x12 : Shape := ⟨4, ![1024, 16, 64, 12]⟩
abbrev S16x128x1024x12 : Shape := ⟨4, ![16, 128, 1024, 12]⟩
abbrev S16x320x1024x12 : Shape := ⟨4, ![16, 320, 1024, 12]⟩
abbrev S64x16x1024x12 : Shape := ⟨4, ![64, 16, 1024, 12]⟩
abbrev S1x64x1x1 : Shape := ⟨4, ![1, 64, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x64x1024x12, .f32⟩
  | .hbm, ⟨1, _⟩ => ⟨S2x1024x1024, .f32⟩
  | .hbm, ⟨2, _⟩ => ⟨S64x320, .f32⟩
  | .hbm, ⟨3, _⟩ => ⟨S64, .f32⟩
  | .hbm, ⟨4, _⟩ => ⟨S1x1024x1024, .f32⟩
  | .hbm, ⟨5, _⟩ => ⟨S1024x1024, .f32⟩
  | .hbm, ⟨6, _⟩ => ⟨S1024x16x64x12, .f32⟩
  | .hbm, ⟨7, _⟩ => ⟨S16x64x1024x12, .f32⟩
  | .hbm, ⟨8, _⟩ => ⟨S1024x16x64x12, .f32⟩
  | .hbm, ⟨9, _⟩ => ⟨S16x64x1024x12, .f32⟩
  | .hbm, ⟨10, _⟩ => ⟨S16x128x1024x12, .f32⟩
  | .hbm, ⟨11, _⟩ => ⟨S1x1024x1024, .f32⟩
  | .hbm, ⟨12, _⟩ => ⟨S1024x1024, .f32⟩
  | .hbm, ⟨13, _⟩ => ⟨S1024x16x64x12, .f32⟩
  | .hbm, ⟨14, _⟩ => ⟨S16x64x1024x12, .f32⟩
  | .hbm, ⟨15, _⟩ => ⟨S1024x16x64x12, .f32⟩
  | .hbm, ⟨16, _⟩ => ⟨S16x64x1024x12, .f32⟩
  | .hbm, ⟨17, _⟩ => ⟨S16x128x1024x12, .f32⟩
  | .hbm, ⟨18, _⟩ => ⟨S16x320x1024x12, .f32⟩
  | .hbm, ⟨19, _⟩ => ⟨S64x16x1024x12, .f32⟩
  | .hbm, ⟨20, _⟩ => ⟨S16x64x1024x12, .f32⟩
  | .hbm, ⟨21, _⟩ => ⟨S1x64x1x1, .f32⟩
  | .hbm, ⟨22, _⟩ => ⟨S16x64x1024x12, .f32⟩
  | .hbm, ⟨23, _⟩ => ⟨S16x64x1024x12, .f32⟩
  | _, _ => ⟨S16x64x1024x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.Spec.lean ====
/- The mathematics of one graph convolution, over plain functions into the extended reals: a diffusion step
   over a graph, the five features of a signal, and the channel mix that both programs are shown to compute. -/
module

public import Idealize.ShloMosaic.Lib.Pointwise

@[expose] public section

noncomputable section

namespace Cert.Gcn

open Idealize.ShloMosaic

/-- One diffusion step: the signal `h` at the vertices is carried along the edges of `A`, and vertex `m` receives
    the sum over all vertices `n` of `A n m * h n`. -/
def hop (A : Fin 1024 → Fin 1024 → EReal) (h : Fin 1024 → EReal) : Fin 1024 → EReal :=
  fun m => ∑ n : Fin 1024, A n m * h n

/-- The channel mix of five features given on 256 columns each: the offset `b`,
    then the five products with the stacked weight matrices, added from the left. -/
def mixWide (f0 f1 f2 f3 f4 : Fin 256 → EReal) (w : Fin 5 → Fin 256 → EReal) (b : EReal) : EReal :=
  b + (∑ p, f0 p * w 0 p) + (∑ p, f1 p * w 1 p) + (∑ p, f2 p * w 2 p) + (∑ p, f3 p * w 3 p) + (∑ p, f4 p * w 4 p)

/-- The channel mix of one output channel: `b` plus, over the 64 channels `c`, the products of the signal `X c`, its
    one and two steps over the first graph, and its one and two steps over the second graph, with the weights `w` of
    the five groups of 64 channels. -/
def mix (A0 A1 : Fin 1024 → Fin 1024 → EReal) (X : Fin 64 → Fin 1024 → EReal) (w : Fin 320 → EReal) (b : EReal)
    (n : Fin 1024) : EReal :=
  b + (∑ c : Fin 64, X c n * w ⟨c.val, by omega⟩)
    + (∑ c : Fin 64, hop A0 (X c) n * w ⟨64 + c.val, by omega⟩)
    + (∑ c : Fin 64, hop A0 (hop A0 (X c)) n * w ⟨128 + c.val, by omega⟩)
    + (∑ c : Fin 64, hop A1 (X c) n * w ⟨192 + c.val, by omega⟩)
    + (∑ c : Fin 64, hop A1 (hop A1 (X c)) n * w ⟨256 + c.val, by omega⟩)

/-- A sum of products over 256 columns with weights that vanish outside the stretch of 64 columns of column `r` is the
    sum over that stretch. -/
theorem collapse (f : Fin 256 → EReal) (w : Fin 64 → EReal) (r : Fin 256) :
    (∑ p : Fin 256, f p * ((if p.val / 64 = r.val / 64 then 1 else 0) * w ⟨p.val % 64, by omega⟩))
      = ∑ c : Fin 64, f ⟨r.val / 64 * 64 + c.val, by omega⟩ * w c := by
  rw [← Equiv.sum_comp (finProdFinEquiv : Fin 4 × Fin 64 ≃ Fin 256), Fintype.sum_prod_type,
    Finset.sum_eq_single (⟨r.val / 64, by omega⟩ : Fin 4)]
  · refine Finset.sum_congr rfl fun c _ => ?_
    have hv : (finProdFinEquiv ((⟨r.val / 64, by omega⟩ : Fin 4), c)).val = c.val + 64 * (r.val / 64) := rfl
    rw [if_pos (by rw [hv]; omega), one_mul]
    congr 2 <;> apply Fin.ext
    · rw [hv]
      show _ = r.val / 64 * 64 + c.val
      omega
    · show (finProdFinEquiv ((⟨r.val / 64, by omega⟩ : Fin 4), c)).val % 64 = c.val
      rw [hv]
      omega
  · intro a _ ha
    refine Finset.sum_eq_zero fun c _ => ?_
    have hv : (finProdFinEquiv (a, c)).val = c.val + 64 * a.val := rfl
    rw [if_neg, zero_mul, mul_zero]
    intro h
    refine ha (Fin.ext ?_)
    show a.val = r.val / 64
    rw [hv] at h
    omega
  · exact fun h => absurd (Finset.mem_univ _) h

/-- A sum over 320 channels is the sum of its five sums over 64 channels. -/
theorem sum_groups (G : Fin 320 → EReal) :
    (∑ i : Fin 320, G i)
      = (∑ c : Fin 64, G ⟨c.val, by omega⟩) + (∑ c : Fin 64, G ⟨64 + c.val, by omega⟩)
        + (∑ c : Fin 64, G ⟨128 + c.val, by omega⟩) + (∑ c : Fin 64, G ⟨192 + c.val, by omega⟩)
        + (∑ c : Fin 64, G ⟨256 + c.val, by omega⟩) := by
  have h : ∀ a : Fin 5, (∑ c : Fin 64, G (finProdFinEquiv (a, c))) = ∑ c : Fin 64, G ⟨64 * a.val + c.val, by omega⟩ :=
    fun a => Finset.sum_congr rfl fun c _ => congrArg G (Fin.ext (Nat.add_comm c.val (64 * a.val)))
  rw [← Equiv.sum_comp (finProdFinEquiv : Fin 5 × Fin 64 ≃ Fin 320), Fintype.sum_prod_type, Fin.sum_univ_five]
  simp only [h, Fin.isValue, Fin.coe_ofNat_eq_mod, Nat.reduceMod, Nat.reduceMul, zero_add]

/-- Five sums with an offset added last are the offset with the five sums added one by one. -/
theorem sum_offset {s0 s1 s2 s3 s4 t0 t1 t2 t3 t4 : EReal} (b : EReal) (h0 : s0 = t0) (h1 : s1 = t1) (h2 : s2 = t2)
    (h3 : s3 = t3) (h4 : s4 = t4) : s0 + s1 + s2 + s3 + s4 + b = b + t0 + t1 + t2 + t3 + t4 := by
  subst h0 h1 h2 h3 h4
  rw [add_comm _ b]
  simp only [← add_assoc]

/-- A product with its factors exchanged, one of them under another name. -/
theorem mul_swap {f g : EReal} (w : EReal) (h : f = g) : w * f = g * w := by
  rw [h, mul_comm]

/-- The graph convolution of the arguments, at batch `b`, output channel `o`, vertex `n` and time `t`: the channel mix
    of the 64 signals of that batch and time, over the two graphs, with row `o` of the weights and entry `o` of the
    offsets. -/
def gcn (X : (⟨4, ![16, 64, 1024, 12]⟩ : Shape).Idx → EReal) (A : (⟨3, ![2, 1024, 1024]⟩ : Shape).Idx → EReal)
    (W : (⟨2, ![64, 320]⟩ : Shape).Idx → EReal) (B : (⟨1, ![64]⟩ : Shape).Idx → EReal)
    (b : Fin 16) (o : Fin 64) (n : Fin 1024) (t : Fin 12) : EReal :=
  mix (fun n k => A (ix3 0 n k)) (fun n k => A (ix3 1 n k)) (fun c n => X (ix4 b c n t)) (fun i => W (ix2 o i))
    (B (ix1 o)) n

end Cert.Gcn

end
-- ==== Proof.Block.lean ====
/- What one block computes: the contents of the output buffer after the body, at a vertex and a column, from the
   five input blocks. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.Gcn

open Idealize.ShloMosaic Cert.KernelIdeal Cert.KernelIdeal.Gen

variable (x0 x1 x2 : Vec Ideal S1024x1024 .bf16) (x3 : Vec Ideal S5x256x256 .bf16) (x4 : Vec Ideal S1x256 .f32)

/-- Column `q` of a block of signals. -/
def colOf (x : Vec Ideal S1024x1024 .bf16) (q : Fin 1024) : Fin 1024 → EReal := fun n => x (ix2 n q)

/-- A block of edge weights as a function of its two vertices. -/
def edges (a : Vec Ideal S1024x1024 .bf16) : Fin 1024 → Fin 1024 → EReal := fun n m => a (ix2 n m)

/-- The value of the output block at vertex `n` and column `r` of the tile that starts at column `o`. -/
def tileVal (o : Nat) (ho : o + 256 ≤ 1024) (n : Fin 1024) (r : Fin 256) : EReal :=
  let col := fun p : Fin 256 => colOf x0 ⟨o + p.val, by omega⟩
  mixWide (fun p => col p n) (fun p => hop (edges x1) (col p) n) (fun p => hop (edges x1) (hop (edges x1) (col p)) n)
    (fun p => hop (edges x2) (col p) n) (fun p => hop (edges x2) (hop (edges x2) (col p)) n)
    (fun g p => x3 (ix3 g p r)) (x4 (ix2 0 r))

/-- The tile that holds column `q` starts at `o`, when `q` is `o` plus an offset below 256 and `o` is a multiple
    of 256. -/
theorem tileVal_at (q o : Nat) (ho : o + 256 ≤ 1024) (r r' : Fin 256) (h : q / 256 * 256 + 256 ≤ 1024)
    (ho' : o = q / 256 * 256) (hr : r = r') (n : Fin 1024) :
    tileVal x0 x1 x2 x3 x4 o ho n r = tileVal x0 x1 x2 x3 x4 (q / 256 * 256) h n r' := by
  subst hr
  subst ho'
  rfl

/-- The output block at an index: the tile of the index's column, read there. -/
theorem out_apply (n q : Fin 1024) :
    out0_5 x0 x1 x2 x3 x4 (ix2 n q)
      = tileVal x0 x1 x2 x3 x4 (q.val / 256 * 256) (by omega) n ⟨q.val % 256, by omega⟩ := by
  unfold_out out0_5
  canon_tiles x h
  · obtain ⟨a, r, rfl⟩ : ∃ (a : Fin 1024) (r : Fin 256), x = ix2 a r := ⟨x 0, x 1, eq_ix2 x⟩
    have hq : q.val = 768 + r.val := h1
    obtain rfl : n = a := Fin.ext h0
    refine Eq.trans ?_ (tileVal_at x0 x1 x2 x3 x4 q.val 768 (by omega) r _ _ (by omega)
      (Fin.ext (show r.val = q.val % 256 by omega)) n)
    unfold_payloads
    pointwise [tileVal, mixWide, colOf, edges, hop]
  · obtain ⟨a, r, rfl⟩ : ∃ (a : Fin 1024) (r : Fin 256), x = ix2 a r := ⟨x 0, x 1, eq_ix2 x⟩
    have hq : q.val = 512 + r.val := h1
    obtain rfl : n = a := Fin.ext h0
    refine Eq.trans ?_ (tileVal_at x0 x1 x2 x3 x4 q.val 512 (by omega) r _ _ (by omega)
      (Fin.ext (show r.val = q.val % 256 by omega)) n)
    unfold_payloads
    pointwise [tileVal, mixWide, colOf, edges, hop]
  · obtain ⟨a, r, rfl⟩ : ∃ (a : Fin 1024) (r : Fin 256), x = ix2 a r := ⟨x 0, x 1, eq_ix2 x⟩
    have hq : q.val = 256 + r.val := h1
    obtain rfl : n = a := Fin.ext h0
    refine Eq.trans ?_ (tileVal_at x0 x1 x2 x3 x4 q.val 256 (by omega) r _ _ (by omega)
      (Fin.ext (show r.val = q.val % 256 by omega)) n)
    unfold_payloads
    pointwise [tileVal, mixWide, colOf, edges, hop]
  · obtain ⟨a, r, rfl⟩ : ∃ (a : Fin 1024) (r : Fin 256), x = ix2 a r := ⟨x 0, x 1, eq_ix2 x⟩
    have hq : q.val = r.val := h1
    obtain rfl : n = a := Fin.ext h0
    refine Eq.trans ?_ (tileVal_at x0 x1 x2 x3 x4 q.val 0 (by omega) r _ _ (by omega)
      (Fin.ext (show r.val = q.val % 256 by omega)) n)
    unfold_payloads
    pointwise [tileVal, mixWide, colOf, edges, hop]

end Cert.Gcn

end
-- ==== Proof.Entry.lean ====
/- What the arrays that the blocks are read from hold when the grid starts, at an index, over the program's arguments:
   the signals laid out by columns, the two graphs, the five stacked weight matrices and the tiled offsets. -/
module

public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.Gcn

open Idealize.ShloMosaic Idealize.ShloMosaic.TcCoe Cert.KernelIdeal Cert.KernelIdeal.Gen

variable (m : (ℓ : Loc nD τ sig) → Buf (Elt Ideal) ℓ) (c : Dev nD)

/-- The signals, the first argument of the program on core `c`, as an array. -/
abbrev argX : Vec Ideal S16x64x1024x12 .f32 := m ((c : Thread nD τ).loc main_arg0)
/-- The two graphs, the second argument. -/
abbrev argA : Vec Ideal S2x1024x1024 .f32 := m ((c : Thread nD τ).loc main_arg1)
/-- The weights, the third argument. -/
abbrev argW : Vec Ideal S64x320 .f32 := m ((c : Thread nD τ).loc main_arg2)
/-- The offsets, the fourth argument. -/
abbrev argB : Vec Ideal S64 .f32 := m ((c : Thread nD τ).loc main_arg3)

/-- The identity matrix as the program makes it: the word of an equality of two small row and column numbers, read as
    an extended real. -/
theorem eye_word (a b : Nat) (ha : a < 4) (hb : b < 4) :
    (FloatOps.uitofp (F := Ideal) FTy.f32
      (IntOp.cmpi CmpIPredicate.eq (IntOp.addi (BitVec.ofNat 32 a) 0#32) (BitVec.ofNat 32 b)) : EReal)
      = if a = b then 1 else 0 := by
  have h : IntOp.cmpi CmpIPredicate.eq (IntOp.addi (BitVec.ofNat 32 a) 0#32) (BitVec.ofNat 32 b)
      = if a = b then 1#1 else 0#1 := by
    interval_cases a <;> interval_cases b <;> rfl
  rw [h]
  split
  · show ((((1#1 : BitVec 1).toNat : ℕ) : ℝ) : EReal) = 1
    norm_num
  · show ((((0#1 : BitVec 1).toNat : ℕ) : ℝ) : EReal) = 0
    norm_num

/-- The first graph's array holds the first slice of the graphs argument. -/
theorem entry_adj0 (n k : Fin 1024) :
    (V m c main_v5 : Vec Ideal S1024x1024 .bf16) (ix2 n k) = argA m c (ix3 0 n k) := by
  unfold V V0
  after_reads_at

/-- The second graph's array holds the second slice of the graphs argument. -/
theorem entry_adj1 (n k : Fin 1024) :
    (V m c main_v8 : Vec Ideal S1024x1024 .bf16) (ix2 n k) = argA m c (ix3 1 n k) := by
  unfold V V0
  after_reads_at

/-- The tiled offsets: column `q` holds the offset of channel `q % 64`. -/
theorem entry_bias (q : Fin 256) :
    (V m c main_v40 : Vec Ideal S1x256 .f32) (ix2 0 q) = argB m c (ix1 ⟨q.val % 64, by omega⟩) := by
  unfold V V0
  after_reads_at

/-- The signals by columns: column `q` is batch `q / 768`, time `q / 64 % 12` and channel `q % 64`. -/
theorem entry_x (n : Fin 1024) (q : Fin 12288) :
    (V m c main_v2 : Vec Ideal S1024x12288 .bf16) (ix2 n q)
      = argX m c (ix4 ⟨q.val / 768, by omega⟩ ⟨q.val % 64, by omega⟩ n ⟨q.val / 64 % 12, by omega⟩) := by
  unfold V V0
  after_reads_at

/-- The stacked weight matrices: entry `p, r` of matrix `g` is the weight from channel `p % 64` of group `g` to channel
    `r % 64`, times one where `p` and `r` lie in the same stretch of 64 and times zero elsewhere. -/
theorem entry_w (g : Fin 5) (p r : Fin 256) :
    (V m c main_v36 : Vec Ideal S5x256x256 .bf16) (ix3 g p r)
      = (if p.val / 64 = r.val / 64 then 1 else 0)
        * argW m c (ix2 ⟨r.val % 64, by omega⟩ ⟨64 * g.val + p.val % 64, by omega⟩) := by
  unfold V V0
  after_reads_at
  fin_vals g with hg
  all_goals simp only [hg, Nat.reduceSub, Nat.reduceLT, ↓reduceDIte]
  all_goals after_reads_at
  all_goals exact congrArg (· * _) (eye_word _ _ (by omega) (by omega))

end Cert.Gcn

end
-- ==== Proof.ArrayValue.lean ====
/- What the result array of the grid holds after its last point: at vertex `n` and column `q`, the graph convolution at
   the batch, time and channel that the column stands for. -/
module

public import proofs.«01_k».proof.Proof.Block
public import proofs.«01_k».proof.Proof.Entry

@[expose] public section

set_option maxRecDepth 16384

noncomputable section

namespace Cert.Gcn

open Idealize.ShloMosaic Idealize.ShloMosaic.TcCoe Cert.KernelIdeal Cert.KernelIdeal.Gen

variable (m : (ℓ : Loc nD τ sig) → Buf (Elt Ideal) ℓ) (c : Dev nD)

/-- The block indices of the six windows at a grid point: the signals and the result move along the columns, the other
    four stay in place. -/
theorem index_at : ∀ t : Fin grid0.N,
    win0_0.index t = ![0, t.val] ∧ win0_1.index t = ![0, 0] ∧ win0_2.index t = ![0, 0]
      ∧ win0_3.index t = ![0, 0, 0] ∧ win0_4.index t = ![0, 0] ∧ win0_5.index t = ![0, t.val] := by
  decide +kernel

/-- A place of the signals' block is the same vertex, in the column counted from the block's first. -/
theorem block_x (t : Fin cfg0.N) (n q : Fin 1024) (h : t.val * 1024 + q.val < 12288) :
    iblk m c 0 t (ix2 n q) = (V m c main_v2 : Vec Ideal S1024x12288 .bf16) (ix2 n ⟨t.val * 1024 + q.val, h⟩) := by
  obtain ⟨h0, -⟩ := index_at t
  blk_ext [iblk, h0]

/-- The first graph's block is its whole array. -/
theorem block_adj0 (t : Fin cfg0.N) (n k : Fin 1024) :
    iblk m c 1 t (ix2 n k) = (V m c main_v5 : Vec Ideal S1024x1024 .bf16) (ix2 n k) := by
  obtain ⟨-, h1, -⟩ := index_at t
  blk_ext [iblk, h1]

/-- The second graph's block is its whole array. -/
theorem block_adj1 (t : Fin cfg0.N) (n k : Fin 1024) :
    iblk m c 2 t (ix2 n k) = (V m c main_v8 : Vec Ideal S1024x1024 .bf16) (ix2 n k) := by
  obtain ⟨-, -, h2, -⟩ := index_at t
  blk_ext [iblk, h2]

/-- The weights' block is their whole array. -/
theorem block_w (t : Fin cfg0.N) (g : Fin 5) (p r : Fin 256) :
    iblk m c 3 t (ix3 g p r) = (V m c main_v36 : Vec Ideal S5x256x256 .bf16) (ix3 g p r) := by
  obtain ⟨-, -, -, h3, -⟩ := index_at t
  blk_ext [iblk, h3]

/-- The offsets' block is their whole array. -/
theorem block_b (t : Fin cfg0.N) (r : Fin 256) :
    iblk m c 4 t (ix2 0 r) = (V m c main_v40 : Vec Ideal S1x256 .f32) (ix2 0 r) := by
  obtain ⟨-, -, -, -, h4, -⟩ := index_at t
  blk_ext [iblk, h4]

/-- A column's products with column `r` of weight matrix `g`, summed over the 256 rows: the products over the 64 channels of
    the stretch of `r`, with the weights of group `g` to channel `r % 64`. -/
theorem weight_sum (t : Fin cfg0.N) (g : Fin 5) (r : Fin 256) (f : Fin 256 → EReal) :
    (∑ p : Fin 256, f p * iblk m c 3 t (ix3 g p r))
      = ∑ k : Fin 64, f ⟨r.val / 64 * 64 + k.val, by omega⟩
          * argW m c (ix2 ⟨r.val % 64, by omega⟩ ⟨64 * g.val + k.val, by omega⟩) := by
  rw [← collapse f (fun k => argW m c (ix2 ⟨r.val % 64, by omega⟩ ⟨64 * g.val + k.val, by omega⟩)) r]
  refine Finset.sum_congr rfl fun p _ => ?_
  rw [block_w, entry_w]

/-- Column `p` of the signals' block, for a column that lies in the same stretch of 64 as column `q`: channel `k` of the
    signals, at the batch and the time of column `q`. -/
theorem block_column (t : Fin cfg0.N) (p q : Fin 1024) (k : Fin 64) (Q : Nat) (hQ : Q = t.val * 1024 + q.val)
    (hlt : Q < 12288) (hp : p.val = q.val / 64 * 64 + k.val) :
    colOf (iblk m c 0 t) p
      = fun n => argX m c (ix4 ⟨Q / 768, by omega⟩ k n ⟨Q / 64 % 12, by omega⟩) := by
  funext n
  unfold colOf
  rw [block_x m c t n p (by omega), entry_x]
  congr 2 <;> apply Fin.ext <;> dsimp only <;> omega

/-- The first graph's block as a function of two vertices. -/
theorem edges0 (t : Fin cfg0.N) : edges (iblk m c 1 t) = fun n k => argA m c (ix3 0 n k) := by
  funext n k
  unfold edges
  rw [block_adj0, entry_adj0]

/-- The second graph's block as a function of two vertices. -/
theorem edges1 (t : Fin cfg0.N) : edges (iblk m c 2 t) = fun n k => argA m c (ix3 1 n k) := by
  funext n k
  unfold edges
  rw [block_adj1, entry_adj1]

/-- What a tile of the output block holds: the graph convolution at the batch, time and channel of its column. -/
theorem tile_gcn (t : Fin cfg0.N) (o : Nat) (ho : o + 256 ≤ 1024) (h256 : o % 256 = 0) (n : Fin 1024) (r : Fin 256)
    (Q : Nat) (hQ : Q = t.val * 1024 + (o + r.val)) (hlt : Q < 12288) :
    tileVal (iblk m c 0 t) (iblk m c 1 t) (iblk m c 2 t) (iblk m c 3 t) (iblk m c 4 t) o ho n r
      = gcn (argX m c) (argA m c) (argW m c) (argB m c) ⟨Q / 768, by omega⟩ ⟨Q % 64, by omega⟩ n
          ⟨Q / 64 % 12, by omega⟩ := by
  have hch : (⟨r.val % 64, by omega⟩ : Fin 64) = ⟨Q % 64, by omega⟩ := Fin.ext (by dsimp only; omega)
  have hcol : ∀ (k : Fin 64) (h : o + (r.val / 64 * 64 + k.val) < 1024),
      colOf (iblk m c 0 t) ⟨o + (r.val / 64 * 64 + k.val), h⟩
        = fun n => argX m c (ix4 ⟨Q / 768, by omega⟩ k n ⟨Q / 64 % 12, by omega⟩) := fun k h =>
    block_column m c t _ ⟨o + r.val, by omega⟩ k Q hQ hlt (by dsimp only; omega)
  unfold tileVal mixWide gcn mix
  have hb : iblk m c 4 t (ix2 0 r) = argB m c (ix1 ⟨Q % 64, by omega⟩) := by
    rw [block_b, entry_bias, hch]
  simp only [weight_sum, hcol, edges0, edges1, hb, hch, Fin.isValue, Fin.coe_ofNat_eq_mod, Nat.reduceMod, Nat.reduceMul,
    zero_add]

/-- The result by columns: at vertex `n` and column `q`, the graph convolution at batch `q / 768`, channel `q % 64` and
    time `q / 64 % 12`. -/
def columns : Vec Ideal S1024x12288 .bf16 := fun i =>
  let n : Fin 1024 := i 0
  let q : Fin 12288 := i 1
  gcn (argX m c) (argA m c) (argW m c) (argB m c) ⟨q.val / 768, by omega⟩ ⟨q.val % 64, by omega⟩ n
    ⟨q.val / 64 % 12, by omega⟩

/-- The result by columns at vertex `n` and column `q`. -/
theorem columns_apply (n : Fin 1024) (q : Fin 12288) :
    columns m c (ix2 n q) = gcn (argX m c) (argA m c) (argW m c) (argB m c) ⟨q.val / 768, by omega⟩
      ⟨q.val % 64, by omega⟩ n ⟨q.val / 64 % 12, by omega⟩ := rfl

/-- What the output block holds at a grid point: the result by columns, at the block's place in the array. -/
theorem block_out (t : Fin cfg0.N) (n q : Fin 1024) (h : t.val * 1024 + q.val < 12288) :
    out0_5 (iblk m c 0 t) (iblk m c 1 t) (iblk m c 2 t) (iblk m c 3 t) (iblk m c 4 t) (ix2 n q)
      = columns m c (ix2 n ⟨t.val * 1024 + q.val, h⟩) :=
  (out_apply (iblk m c 0 t) (iblk m c 1 t) (iblk m c 2 t) (iblk m c 3 t) (iblk m c 4 t) n q).trans
    (tile_gcn m c t (q.val / 256 * 256) (by omega) (by omega) n ⟨q.val % 256, by omega⟩ (t.val * 1024 + q.val)
      (by dsimp only; omega) h)

/-- The result array after the last grid point is the result by columns. -/
theorem array_final : (dats m 0 c).arrAt 5 cfg0.N = columns m c := by
  refine (dats m 0 c).arrAt_eq_of_covers 5 _ (by decide +kernel) fun t hf y => ?_
  obtain ⟨-, -, -, -, -, h5⟩ := index_at t
  obtain ⟨n, q, rfl⟩ : ∃ (n q : Fin 1024), y = ix2 n q := ⟨y 0, y 1, eq_ix2 y⟩
  have ht : t.val < 12 := t.isLt
  have e : ((cfg0.win 5).blk t).view.emb (ix2 n q)
      = (ix2 n ⟨t.val * 1024 + q.val, by omega⟩ : S1024x12288.Idx) := by
    blk_ext [h5]
  rw [e, ← block_out m c t n q (by omega)]
  blk_simp
  rw [after0_5]

end Cert.Gcn

end
-- ==== Proof.KernelRun.lean ====
/- What the kernel's program leaves: its result is the graph convolution of its arguments, and the arguments are as
   they were. -/
module

public import proofs.«01_k».proof.Proof.ArrayValue

@[expose] public section

set_option maxRecDepth 16384

noncomputable section

namespace Cert.Gcn

open Idealize.ShloMosaic Idealize.ShloMosaic.TcCoe Idealize.SL.Sem Cert.KernelIdeal Cert.KernelIdeal.Gen

variable (m : (ℓ : Loc nD τ sig) → Buf (Elt Ideal) ℓ) (c : Dev nD)

/-- The region leaves the result by columns in its result array. -/
theorem region_out :
    Pipeline.withArrays (cfgs 0).spec c (V0 m c) (fun w => (dats m 0 c).arrAt w (cfgs 0).N) (Proc.devRef .tc main_v41)
      = columns m c :=
  (Pipeline.withArrays_arr (cfgs 0).spec (by decide) c (V0 m c) (fun w => (dats m 0 c).arrAt w (cfgs 0).N) 5).trans
    (array_final m c)

/-- The program's result after the last host operation: the graph convolution of the arguments. -/
theorem tail_out :
    (Pipeline.afterTail₀ cfgs (dats m) 0 (V0 m) [hostOps1] c main_v44 : Vec Ideal S16x64x1024x12 .f32)
      = fun i => gcn (argX m c) (argA m c) (argW m c) (argB m c) (i 0) (i 1) (i 2) (i 3) := by
  funext i
  obtain ⟨b, o, n, t, rfl⟩ : ∃ (b : Fin 16) (o : Fin 64) (n : Fin 1024) (t : Fin 12), i = ix4 b o n t :=
    ⟨i 0, i 1, i 2, i 3, eq_ix4 i⟩
  unfold Pipeline.afterTail₀
  generalize hW : Pipeline.withArrays (cfgs 0).spec c (V0 m c) (fun w => (dats m 0 c).arrAt w (cfgs 0).N) = W
  have hr : (W (Proc.devRef .tc main_v41) : Vec Ideal S1024x12288 .bf16) = columns m c := by
    rw [← hW]; exact region_out m c
  after_reads_at
  rw [hr]
  refine (columns_apply m c n _).trans ?_
  congr 1 <;> apply Fin.ext <;> dsimp only <;> omega

/-- Every run of the kernel's program ends with the graph convolution of the arguments in the result, and the arguments as
    they were. -/
theorem kernel_run (g : Dev nD → PrngReg) :
    θ_run defs (onTc (τ := τ) (main (F := Ideal))) ⟨m, fun _ => 0, g⟩ (fun r => ∀ c : Dev nD,
      r.2.mem ((c.tc : Thread nD τ).loc main_v44)
          = (fun i : S16x64x1024x12.Idx => gcn (argX m c) (argA m c) (argW m c) (argB m c) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (run_main m g) fun _ h c =>
    have at_end := fun b hb => (h c).2 b hb
    ⟨(at_end main_v44 (Pipeline.mem_restRefs_of main_v44 (by decide) (by decide))).trans (tail_out m c),
      (at_end main_arg0 (Pipeline.mem_restRefs_of main_arg0 (by decide) (by decide))).trans (W_main_arg0 m (dats m) c),
      (at_end main_arg1 (Pipeline.mem_restRefs_of main_arg1 (by decide) (by decide))).trans (W_main_arg1 m (dats m) c),
      (at_end main_arg2 (Pipeline.mem_restRefs_of main_arg2 (by decide) (by decide))).trans (W_main_arg2 m (dats m) c),
      (at_end main_arg3 (Pipeline.mem_restRefs_of main_arg3 (by decide) (by decide))).trans (W_main_arg3 m (dats m) c)⟩

end Cert.Gcn

end
-- ==== Proof.RefRun.lean ====
/- What the reference leaves: its result is the graph convolution of its arguments, and the arguments are as they were. -/
module

public import proofs.«01_k».proof.Proof.Spec
public import proofs.«01_k».proof.Proof.Gen.ReferenceIdeal.Run
public import Idealize.ShloMosaic.Lib.Claim

@[expose] public section

set_option maxRecDepth 16384

noncomputable section

namespace Cert.Gcn

open Idealize.ShloMosaic Idealize.ShloMosaic.TcCoe Idealize.SL.Sem Cert.ReferenceIdeal

variable (m : (ℓ : Loc nD τ sig) → Buf (Elt Ideal) ℓ) (c : Dev nD)

/-- The signals, the first argument of the reference on core `c`, as an array. -/
abbrev refX : Vec Ideal S16x64x1024x12 .f32 := m ((c : Thread nD τ).loc main_arg0)
/-- The two graphs, the second argument. -/
abbrev refA : Vec Ideal S2x1024x1024 .f32 := m ((c : Thread nD τ).loc main_arg1)
/-- The weights, the third argument. -/
abbrev refW : Vec Ideal S64x320 .f32 := m ((c : Thread nD τ).loc main_arg2)
/-- The offsets, the fourth argument. -/
abbrev refB : Vec Ideal S64 .f32 := m ((c : Thread nD τ).loc main_arg3)

/-- Every run of the reference ends with the graph convolution of the arguments in the result, and the arguments as they
    were. -/
theorem reference_run (g : Dev nD → PrngReg) :
    θ_run defs (onTc (τ := τ) (main (F := Ideal))) ⟨m, fun _ => 0, g⟩ (fun r => ∀ c : Dev nD,
      r.2.mem ((c.tc : Thread nD τ).loc main_v19)
          = (fun i : S16x64x1024x12.Idx => gcn (refX m c) (refA m c) (refW m c) (refB m c) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (Cert.ReferenceIdeal.Value.run m g) fun _ h c => ⟨(h c).1.trans (by
    funext i
    obtain ⟨b, o, n, t, rfl⟩ : ∃ (b : Fin 16) (o : Fin 64) (n : Fin 1024) (t : Fin 12), i = ix4 b o n t :=
      ⟨i 0, i 1, i 2, i 3, eq_ix4 i⟩
    pointwise [gcn, mix, hop]
    rw [sum_groups]
    clear h
    refine sum_offset _ ?_ ?_ ?_ ?_ ?_
    · refine Finset.sum_congr rfl fun k _ => mul_swap _ ?_
      rw [dif_pos (by dsimp only; omega)]
    · refine Finset.sum_congr rfl fun k _ => mul_swap _ ?_
      have e : ∀ h, (⟨64 + k.val - 64, h⟩ : Fin 64) = k := fun _ => Fin.ext (by dsimp only; omega)
      rw [dif_neg (by dsimp only; omega), dif_pos (by dsimp only; omega), dif_pos (by dsimp only; omega)]
      simp only [e]
    · refine Finset.sum_congr rfl fun k _ => mul_swap _ ?_
      have e : ∀ h, (⟨128 + k.val - 64 - 64, h⟩ : Fin 64) = k := fun _ => Fin.ext (by dsimp only; omega)
      rw [dif_neg (by dsimp only; omega), dif_pos (by dsimp only; omega), dif_neg (by dsimp only; omega)]
      simp only [e]
    · refine Finset.sum_congr rfl fun k _ => mul_swap _ ?_
      have e : ∀ h, (⟨192 + k.val - 64 - 128, h⟩ : Fin 64) = k := fun _ => Fin.ext (by dsimp only; omega)
      rw [dif_neg (by dsimp only; omega), dif_neg (by dsimp only; omega), dif_pos (by dsimp only; omega)]
      simp only [e]
    · refine Finset.sum_congr rfl fun k _ => mul_swap _ ?_
      have e : ∀ h, (⟨256 + k.val - 64 - 128 - 64, h⟩ : Fin 64) = k := fun _ => Fin.ext (by dsimp only; omega)
      rw [dif_neg (by dsimp only; omega), dif_neg (by dsimp only; omega), dif_neg (by dsimp only; omega)]
      simp only [e]), (h c).2⟩

end Cert.Gcn

end
-- ==== Proof.lean ====
/- The proof of the five claims: the kernel's program runs and leaves its arguments as they were, in its own formats and
   over the extended reals; so does the reference; the idealization is the kernel's own text; and over the extended
   reals the kernel and the reference end with the same result. The mathematics is in Spec, Block, Entry, ArrayValue,
   KernelRun and RefRun; here it is put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore that could end at anything but zero. -/
theorem frame_reference : Cert.quiescent_ReferenceIdeal := fun m g _ =>
  θ_run_mono (Cert.Gcn.reference_run m g) fun r h => ⟨fun c => (h c).2, sem_eq_zero_of_no_sems (by decide) r.2⟩

/-- From arguments that agree, the kernel and the reference both end with the graph convolution of those arguments. -/
theorem algebraic : Cert.algebraic_KernelIdeal_ReferenceIdeal := by
  intro m g m' g' _ hagree
  refine ⟨_, Cert.Gcn.kernel_run m g, θ_run_mono (Cert.Gcn.reference_run m' g') fun _ h c => ⟨(h c).1.trans ?_, (h c).2⟩⟩
  obtain ⟨hx, ha, hw, hb⟩ := hagree c
  have ex : Cert.Gcn.refX m' c = Cert.Gcn.argX m c := hx
  have ea : Cert.Gcn.refA m' c = Cert.Gcn.argA m c := ha
  have ew : Cert.Gcn.refW m' c = Cert.Gcn.argW m c := hw
  have eb : Cert.Gcn.refB m' c = Cert.Gcn.argB m c := hb
  rw [ex, ea, ew, eb]

/-- Every claim of this certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, algebraic⟩

end Cert.Proof

end
